-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S18x577x16x80 : Shape := ⟨4, ![18, 577, 16, 80]⟩
abbrev S18x16x577x577 : Shape := ⟨4, ![18, 16, 577, 577]⟩
abbrev S16 : Shape := ⟨1, ![16]⟩
abbrev S18x16 : Shape := ⟨2, ![18, 16]⟩
abbrev S18x16x80x577 : Shape := ⟨4, ![18, 16, 80, 577]⟩
abbrev S1x1x80x577 : Shape := ⟨4, ![1, 1, 80, 577]⟩
abbrev S1x1x577x577 : Shape := ⟨4, ![1, 1, 577, 577]⟩
abbrev S1 : Shape := ⟨1, ![1]⟩
abbrev S1x1 : Shape := ⟨2, ![1, 1]⟩
abbrev S80x577 : Shape := ⟨2, ![80, 577]⟩
abbrev S577x577 : Shape := ⟨2, ![577, 577]⟩
abbrev S577 : Shape := ⟨1, ![577]⟩
abbrev S577x1 : Shape := ⟨2, ![577, 1]⟩

abbrev nBuf : Space → Nat
  | .hbm => 17
  | .vmem => 16
  | .smem => 2
  | _ => 0

abbrev bufTy : (tb : Table) → Fin (tcTables nBuf tb) → BufTy
  | .hbm, ⟨0, _⟩ => ⟨S18x577x16x80, .bf16⟩
  | .hbm, ⟨1, _⟩ => ⟨S18x577x16x80, .bf16⟩
  | .hbm, ⟨2, _⟩ => ⟨S18x16x577x577, .i8⟩
  | .hbm, ⟨3, _⟩ => ⟨S16, .f32⟩
  | .hbm, ⟨4, _⟩ => ⟨S18x577x16x80, .fp8e4m3⟩
  | .hbm, ⟨5, _⟩ => ⟨S18x16, .f32⟩
  | .hbm, ⟨6, _⟩ => ⟨S18x577x16x80, .bf16⟩
  | .hbm, ⟨7, _⟩ => ⟨S18x16x80x577, .bf16⟩
  | .hbm, ⟨8, _⟩ => ⟨S18x16x80x577, .bf16⟩
  | .hbm, ⟨9, _⟩ => ⟨S18x16x80x577, .fp8e4m3⟩
  | .hbm, ⟨10, _⟩ => ⟨S18x16x80x577, .bf16⟩
  | .hbm, ⟨11, _⟩ => ⟨S18x16x80x577, .bf16⟩
  | .hbm, ⟨12, _⟩ => ⟨S18x16x80x577, .bf16⟩
  | .hbm, ⟨13, _⟩ => ⟨S18x16x80x577, .bf16⟩
  | .hbm, ⟨14, _⟩ => ⟨S18x577x16x80, .bf16⟩
  | .hbm, ⟨15, _⟩ => ⟨S18x577x16x80, .bf16⟩
  | .hbm, ⟨16, _⟩ => ⟨S18x577x16x80, .bf16⟩
  | .local _ .vmem, ⟨0, _⟩ => ⟨S1x1x80x577, .bf16⟩
  | .local _ .vmem, ⟨1, _⟩ => ⟨S1x1x80x577, .bf16⟩
  | .local _ .vmem, ⟨2, _⟩ => ⟨S1x1x80x577, .bf16⟩
  | .local _ .vmem, ⟨3, _⟩ => ⟨S1x1x80x577, .bf16⟩
  | .local _ .vmem, ⟨4, _⟩ => ⟨S1x1x577x577, .i8⟩
  | .local _ .vmem, ⟨5, _⟩ => ⟨S1x1x577x577, .i8⟩
  | .local _ .vmem, ⟨6, _⟩ => ⟨S1x1x80x577, .fp8e4m3⟩
  | .local _ .vmem, ⟨7, _⟩ => ⟨S1x1x80x577, .fp8e4m3⟩
  | .local _ .vmem, ⟨8, _⟩ => ⟨S1x1x80x577, .bf16⟩
  | .local _ .vmem, ⟨9, _⟩ => ⟨S1x1x80x577, .bf16⟩
  | .local _ .vmem, ⟨10, _⟩ => ⟨S1x1x80x577, .bf16⟩
  | .local _ .vmem, ⟨11, _⟩ => ⟨S1x1x80x577, .bf16⟩
  | .local _ .vmem, ⟨12, _⟩ => ⟨S1x1x80x577, .bf16⟩
  | .local _ .vmem, ⟨13, _⟩ => ⟨S1x1x80x577, .bf16⟩
  | .local _ .vmem, ⟨14, _⟩ => ⟨S1x1x80x577, .bf16⟩
  | .local _ .vmem, ⟨15, _⟩ => ⟨S1x1x80x577, .bf16⟩
  | .local _ .smem, ⟨0, _⟩ => ⟨S16, .f32⟩
  | .local _ .smem, ⟨1, _⟩ => ⟨S18x16, .f32⟩
  | _, _ => ⟨S18x577x16x80, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![18, 16], ![false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg0 : BitVec 32 := BitVec.ofNat 32 (i 0).val
  let v2 : Index := Scalar.indexCast arg0
  let arg1 : BitVec 32 := BitVec.ofNat 32 (i 1).val
  let v3 : Index := Scalar.indexCast arg1
  ![v2.toNat, v3.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S18x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x80x577 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x577 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x577x577 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x80x577 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x80x577 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x80x577 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x80x577 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x80x577 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S18x577x16x80 : Shape := ⟨4, ![18, 577, 16, 80]⟩
abbrev S18x16x577x577 : Shape := ⟨4, ![18, 16, 577, 577]⟩
abbrev S16 : Shape := ⟨1, ![16]⟩
abbrev S18x16 : Shape := ⟨2, ![18, 16]⟩
abbrev S1x16x1x1 : Shape := ⟨4, ![1, 16, 1, 1]⟩
abbrev S1x1x16x1 : Shape := ⟨4, ![1, 1, 16, 1]⟩
abbrev S18x16x80x577 : Shape := ⟨4, ![18, 16, 80, 577]⟩
abbrev S18x16x1x1 : Shape := ⟨4, ![18, 16, 1, 1]⟩
abbrev S_ : Shape := ⟨0, ![]⟩
abbrev S18x16x577 : Shape := ⟨3, ![18, 16, 577]⟩
abbrev S18x16x577x1 : Shape := ⟨4, ![18, 16, 577, 1]⟩

abbrev nBuf : Space → Nat
  | .hbm => 43
  | .vmem => 4
  | .smem => 0
  | _ => 0

abbrev bufTy : (tb : Table) → Fin (tcTables nBuf tb) → BufTy
  | .hbm, ⟨0, _⟩ => ⟨S18x577x16x80, .bf16⟩
  | .hbm, ⟨1, _⟩ => ⟨S18x577x16x80, .bf16⟩
  | .hbm, ⟨2, _⟩ => ⟨S18x16x577x577, .i8⟩
  | .hbm, ⟨3, _⟩ => ⟨S16, .f32⟩
  | .hbm, ⟨4, _⟩ => ⟨S18x577x16x80, .fp8e4m3⟩
  | .hbm, ⟨5, _⟩ => ⟨S18x16, .f32⟩
  | .hbm, ⟨6, _⟩ => ⟨S18x577x16x80, .bf16⟩
  | .hbm, ⟨7, _⟩ => ⟨S18x16x577x577, .f32⟩
  | .hbm, ⟨8, _⟩ => ⟨S18x577x16x80, .bf16⟩
  | .hbm, ⟨9, _⟩ => ⟨S1x16x1x1, .f32⟩
  | .hbm, ⟨10, _⟩ => ⟨S18x16x577x577, .f32⟩
  | .hbm, ⟨11, _⟩ => ⟨S18x16x577x577, .f32⟩
  | .hbm, ⟨12, _⟩ => ⟨S1x1x16x1, .f32⟩
  | .hbm, ⟨13, _⟩ => ⟨S18x16x577x577, .bf16⟩
  | .hbm, ⟨14, _⟩ => ⟨S18x16x80x577, .f32⟩
  | .hbm, ⟨15, _⟩ => ⟨S18x577x16x80, .f32⟩
  | .hbm, ⟨16, _⟩ => ⟨S18x577x16x80, .f32⟩
  | .hbm, ⟨17, _⟩ => ⟨S18x577x16x80, .f32⟩
  | .hbm, ⟨18, _⟩ => ⟨S18x16x1x1, .f32⟩
  | .hbm, ⟨19, _⟩ => ⟨S18x16x577x577, .f32⟩
  | .hbm, ⟨20, _⟩ => ⟨S18x16x577x577, .f32⟩
  | .hbm, ⟨21, _⟩ => ⟨S18x16x577x577, .f32⟩
  | .hbm, ⟨22, _⟩ => ⟨S18x16x577x577, .f32⟩
  | .hbm, ⟨23, _⟩ => ⟨S_, .f32⟩
  | .hbm, ⟨24, _⟩ => ⟨S18x16x577, .f32⟩
  | .hbm, ⟨25, _⟩ => ⟨S18x16x577x1, .f32⟩
  | .hbm, ⟨26, _⟩ => ⟨S18x16x577x577, .f32⟩
  | .hbm, ⟨27, _⟩ => ⟨S18x16x577x577, .f32⟩
  | .hbm, ⟨28, _⟩ => ⟨S18x16x577x577, .f32⟩
  | .hbm, ⟨29, _⟩ => ⟨S18x16x577x577, .bf16⟩
  | .hbm, ⟨30, _⟩ => ⟨S18x16x80x577, .f32⟩
  | .hbm, ⟨31, _⟩ => ⟨S18x577x16x80, .f32⟩
  | .hbm, ⟨32, _⟩ => ⟨S_, .f32⟩
  | .hbm, ⟨33, _⟩ => ⟨S18x577x16x80, .f32⟩
  | .hbm, ⟨34, _⟩ => ⟨S18x577x16x80, .f32⟩
  | .hbm, ⟨35, _⟩ => ⟨S18x16x80x577, .f32⟩
  | .hbm, ⟨36, _⟩ => ⟨S18x577x16x80, .f32⟩
  | .hbm, ⟨37, _⟩ => ⟨S_, .f32⟩
  | .hbm, ⟨38, _⟩ => ⟨S18x577x16x80, .f32⟩
  | .hbm, ⟨39, _⟩ => ⟨S18x577x16x80, .f32⟩
  | .hbm, ⟨40, _⟩ => ⟨S18x577x16x80, .bf16⟩
  | .hbm, ⟨41, _⟩ => ⟨S18x577x16x80, .bf16⟩
  | .hbm, ⟨42, _⟩ => ⟨S18x577x16x80, .bf16⟩
  | .local _ .vmem, ⟨0, _⟩ => ⟨S18x16x577x577, .i8⟩
  | .local _ .vmem, ⟨1, _⟩ => ⟨S18x577x16x80, .fp8e4m3⟩
  | .local _ .vmem, ⟨2, _⟩ => ⟨S18x16x577x577, .f32⟩
  | .local _ .vmem, ⟨3, _⟩ => ⟨S18x577x16x80, .bf16⟩
  | _, _ => ⟨S18x577x16x80, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S18x16x577x577 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x577x16x80 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x16x577x577 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x577x16x80 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/- The gradients of attention as formulas over the extended reals, naming no program: what each of the three results is
   at one (batch, position, head, channel), written once so that the kernel and the reference can each be shown to
   compute it. -/
module

public import Idealize.ShloMosaic.Lib.Pointwise

@[expose] public section

noncomputable section

namespace Cert.Spec

open Idealize.ShloMosaic

/-- An array of one entry per batch, position, head and channel: queries, keys, values, the output's gradient. -/
abbrev Rows : Shape := ⟨4, ![18, 577, 16, 80]⟩
/-- An array of one entry per batch, head and pair of positions: the attention probabilities' codes. -/
abbrev Pairs : Shape := ⟨4, ![18, 16, 577, 577]⟩

/-- The attention probability at positions `i`, `j` of head `h`: its integer code times the head's scale. -/
def prob (p : Pairs.Idx → BitVec 8) (ps : (⟨1, ![16]⟩ : Shape).Idx → EReal) (b : Fin 18) (h : Fin 16) (i j : Fin 577) : EReal :=
  (((p (ix4 b h i j)).toInt : ℝ) : EReal) * ps (ix1 h)

/-- The gradient with respect to the probability at `i`, `j`: the value's scale times the inner product over the channels
    of the output's gradient at `i` and the value's codes at `j`. -/
def dprob (v : Rows.Idx → EReal) (vs : (⟨2, ![18, 16]⟩ : Shape).Idx → EReal) (g : Rows.Idx → EReal) (b : Fin 18) (h : Fin 16)
    (i j : Fin 577) : EReal :=
  vs (ix2 b h) * ∑ d : Fin 80, g (ix4 b i h d) * v (ix4 b j h d)

/-- The gradient with respect to the score at `i`, `j`, through the softmax: the probability times the difference of the
    probability's gradient and its mean under row `i`'s probabilities. -/
def dscore (p : Pairs.Idx → BitVec 8) (ps : (⟨1, ![16]⟩ : Shape).Idx → EReal) (v : Rows.Idx → EReal)
    (vs : (⟨2, ![18, 16]⟩ : Shape).Idx → EReal) (g : Rows.Idx → EReal) (b : Fin 18) (h : Fin 16) (i j : Fin 577) : EReal :=
  prob p ps b h i j * (dprob v vs g b h i j - ∑ l : Fin 577, dprob v vs g b h i l * prob p ps b h i l)

/-- The softmax's scale, the number that the binary32 pattern of `80 ^ (-1/2)` denotes. -/
def scale : EReal := Ideal.ofBits .f32 0x3DE4F92E#32

/-- The queries' gradient. -/
def dq (k : Rows.Idx → EReal) (p : Pairs.Idx → BitVec 8) (ps : (⟨1, ![16]⟩ : Shape).Idx → EReal) (v : Rows.Idx → EReal)
    (vs : (⟨2, ![18, 16]⟩ : Shape).Idx → EReal) (g : Rows.Idx → EReal) (b : Fin 18) (s : Fin 577) (h : Fin 16) (d : Fin 80) : EReal :=
  scale * ∑ j : Fin 577, k (ix4 b j h d) * dscore p ps v vs g b h s j

/-- The keys' gradient. -/
def dk (q : Rows.Idx → EReal) (p : Pairs.Idx → BitVec 8) (ps : (⟨1, ![16]⟩ : Shape).Idx → EReal) (v : Rows.Idx → EReal)
    (vs : (⟨2, ![18, 16]⟩ : Shape).Idx → EReal) (g : Rows.Idx → EReal) (b : Fin 18) (s : Fin 577) (h : Fin 16) (d : Fin 80) : EReal :=
  scale * ∑ i : Fin 577, q (ix4 b i h d) * dscore p ps v vs g b h i s

/-- The values' gradient. -/
def dv (p : Pairs.Idx → BitVec 8) (ps : (⟨1, ![16]⟩ : Shape).Idx → EReal) (g : Rows.Idx → EReal) (b : Fin 18) (s : Fin 577)
    (h : Fin 16) (d : Fin 80) : EReal :=
  ps (ix1 h) * ∑ i : Fin 577, g (ix4 b i h d) * (((p (ix4 b h i s)).toInt : ℝ) : EReal)

end Cert.Spec

end
-- ==== Proof.Block.lean ====
/- What one grid point of the kernel computes from its input blocks, at one index, over the extended reals: the block's
   score gradient and the three gradients that are stored. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic

/-- The score gradient at positions `i`, `j`, from the two scales `v1` (probabilities) and `v4` (values) and the blocks of
    the output's gradient `v5`, the values' codes `v7` and the probabilities' codes `v10`. -/
theorem ds_apply (v1 v4 : Elt Ideal .f32) (v5 : Vec Ideal S1x1x80x577 .bf16) (v7 : Vec Ideal S1x1x80x577 .fp8e4m3)
    (v10 : Vec Ideal S1x1x577x577 .i8) (i j : Fin 577) :
    k0_pay5 (F := Ideal) v1 v4 v5 v7 v10 (ix2 i j)
      = ((((v10 (ix4 0 0 i j)).toInt : ℝ) : EReal) * v1)
        * (v4 * (∑ d : Fin 80, v5 (ix4 0 0 d i) * v7 (ix4 0 0 d j))
          - ∑ l : Fin 577, (v4 * ∑ d : Fin 80, v5 (ix4 0 0 d i) * v7 (ix4 0 0 d l))
              * ((((v10 (ix4 0 0 i l)).toInt : ℝ) : EReal) * v1)) := by
  pointwise [k0_pay5, k0_pay4, k0_pay3]
  rfl

/-- The keys' gradient at channel `d` and position `s`, from the score gradient `v25` and the queries' block `v33`. -/
theorem dk_apply (v25 : FVec Ideal S577x577 .bf16) (v33 : Vec Ideal S1x1x80x577 .bf16) (u w : Fin 1) (d : Fin 80)
    (s : Fin 577) :
    k0_pay1 (F := Ideal) v25 v33 (ix4 u w d s)
      = Ideal.ofBits .f32 0x3DE4F92E#32 * ∑ i : Fin 577, v33 (ix4 0 0 d i) * v25 (ix2 i s) := by
  pointwise [k0_pay1]

/-- The queries' gradient at channel `d` and position `s`, from the score gradient `v25` and the keys' block `v33`. -/
theorem dq_apply (v25 : FVec Ideal S577x577 .bf16) (v33 : Vec Ideal S1x1x80x577 .bf16) (u w : Fin 1) (d : Fin 80)
    (s : Fin 577) :
    k0_pay2 (F := Ideal) v25 v33 (ix4 u w d s)
      = Ideal.ofBits .f32 0x3DE4F92E#32 * ∑ j : Fin 577, v33 (ix4 0 0 d j) * v25 (ix2 s j) := by
  pointwise [k0_pay2]

/-- The values' gradient at channel `d` and position `s`, from the probabilities' scale `v1`, the block of the output's
    gradient `v5` and the probabilities' codes `v10`. -/
theorem dv_apply (v1 : Elt Ideal .f32) (v5 : Vec Ideal S1x1x80x577 .bf16) (v10 : Vec Ideal S1x1x577x577 .i8) (u w : Fin 1) (d : Fin 80)
    (s : Fin 577) :
    k0_pay6 (F := Ideal) v1 v5 v10 (ix4 u w d s)
      = v1 * ∑ i : Fin 577, v5 (ix4 0 0 d i) * (((v10 (ix4 0 0 i s)).toInt : ℝ) : EReal) := by
  pointwise [k0_pay6, k0_pay4, k0_pay3]
  rfl

end Cert.KernelIdeal.Block

end
-- ==== Proof.Blocks.lean ====
/- What the kernel's grid point reads: the arrays as its region finds them (four arguments transposed on the host, heads
   before positions) and each input window's block, at one index, as entries of the program's arguments. -/
module

public import proofs.«01_k».proof.Proof.Gen.KernelIdeal.Frame
public import Idealize.ShloMosaic.Lib.Pipeline.ValueKit
public import Idealize.ShloMosaic.Lib.StableHlo.Run

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The region finds the queries with heads before channels before positions. -/
theorem entry0 (c : Dev nD) (b : Fin 18) (h : Fin 16) (d : Fin 80) (s : Fin 577) :
    V m c main_v0 (ix4 b h d s) = m ((c.tc : Thread nD τ).loc main_arg0) (ix4 b s h d) := by
  have e : V m c main_v0 = transpose S18x16x80x577 [0, 2, 3, 1] (m ((c.tc : Thread nD τ).loc main_arg0))
      transposes_S18x577x16x80_S18x16x80x577_0_2_3_1 := by
    show StableHlo.after (List.flatten [hostOps0]) (fun b => m (c, b)) (Proc.devRef .tc main_v0) = _
    simp only [hostOps0, List.flatten_cons, List.flatten_nil, List.append_nil, List.cons_append, List.nil_append]
    after_results_simp
  rw [e]
  pointwise

/-- The region finds the keys with heads before channels before positions. -/
theorem entry1 (c : Dev nD) (b : Fin 18) (h : Fin 16) (d : Fin 80) (s : Fin 577) :
    V m c main_v1 (ix4 b h d s) = m ((c.tc : Thread nD τ).loc main_arg1) (ix4 b s h d) := by
  have e : V m c main_v1 = transpose S18x16x80x577 [0, 2, 3, 1] (m ((c.tc : Thread nD τ).loc main_arg1))
      transposes_S18x577x16x80_S18x16x80x577_0_2_3_1 := by
    show StableHlo.after (List.flatten [hostOps0]) (fun b => m (c, b)) (Proc.devRef .tc main_v1) = _
    simp only [hostOps0, List.flatten_cons, List.flatten_nil, List.append_nil, List.cons_append, List.nil_append]
    after_results_simp
  rw [e]
  pointwise

/-- The region finds the values' codes with heads before channels before positions. -/
theorem entry2 (c : Dev nD) (b : Fin 18) (h : Fin 16) (d : Fin 80) (s : Fin 577) :
    V m c main_v2 (ix4 b h d s) = m ((c.tc : Thread nD τ).loc main_arg4) (ix4 b s h d) := by
  have e : V m c main_v2 = transpose S18x16x80x577 [0, 2, 3, 1] (m ((c.tc : Thread nD τ).loc main_arg4))
      transposes_S18x577x16x80_S18x16x80x577_0_2_3_1 := by
    show StableHlo.after (List.flatten [hostOps0]) (fun b => m (c, b)) (Proc.devRef .tc main_v2) = _
    simp only [hostOps0, List.flatten_cons, List.flatten_nil, List.append_nil, List.cons_append, List.nil_append]
    after_results_simp
  rw [e]
  pointwise

/-- The region finds the output's gradient with heads before channels before positions. -/
theorem entry3 (c : Dev nD) (b : Fin 18) (h : Fin 16) (d : Fin 80) (s : Fin 577) :
    V m c main_v3 (ix4 b h d s) = m ((c.tc : Thread nD τ).loc main_arg6) (ix4 b s h d) := by
  have e : V m c main_v3 = transpose S18x16x80x577 [0, 2, 3, 1] (m ((c.tc : Thread nD τ).loc main_arg6))
      transposes_S18x577x16x80_S18x16x80x577_0_2_3_1 := by
    show StableHlo.after (List.flatten [hostOps0]) (fun b => m (c, b)) (Proc.devRef .tc main_v3) = _
    simp only [hostOps0, List.flatten_cons, List.flatten_nil, List.append_nil, List.cons_append, List.nil_append]
    after_results_simp
  rw [e]
  pointwise

/-- The block index of every blocked window at a grid point: the point's batch and head. -/
theorem idx : ∀ t : Fin cfg0.N,
    win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, 0]
    ∧ win0_7.index t = ![(grid0.coords t 0).val, (grid0.coords t 1).val, 0, 0]
    ∧ win0_8.index t = ![(grid0.coords t 0).val, (grid0.coords t 1).val, 0, 0]
    ∧ win0_9.index t = ![(grid0.coords t 0).val, (grid0.coords t 1).val, 0, 0] := by
  decide +kernel

/-- The two tables of scales are held whole, and read at the point's head, and at its batch and head. -/
theorem idxScale : ∀ t : Fin cfg0.N,
    k0_off1 (grid0.coords t) = ![(grid0.coords t 1).val]
    ∧ k0_off2 (grid0.coords t) = ![(grid0.coords t 0).val, (grid0.coords t 1).val]
    ∧ win0_0.index t = ![0]
    ∧ win0_1.index t = ![0, 0] := by
  decide +kernel

/-- The batch that a grid point works on. -/
abbrev bat (t : Fin cfg0.N) : Fin 18 := ⟨(grid0.coords t 0).val, (grid0.coords t 0).isLt⟩
/-- The head that a grid point works on. -/
abbrev hd (t : Fin cfg0.N) : Fin 16 := ⟨(grid0.coords t 1).val, (grid0.coords t 1).isLt⟩

/-- The probabilities' scale that a grid point reads is its head's. -/
theorem read0 (c : Dev nD) (t : Fin cfg0.N) (h) (h') :
    View.ld (iblk m c 0 t) (Rect.unit (k0_off1 (grid0.coords t)) ![1] h) (Shape.Idx.first h')
      = m ((c.tc : Thread nD τ).loc main_arg3) (ix1 (hd t)) := by
  blk_ext! [iblk, idxScale t]

/-- The values' scale that a grid point reads is its batch and head's. -/
theorem read1 (c : Dev nD) (t : Fin cfg0.N) (h) (h') :
    View.ld (iblk m c 1 t) (Rect.unit (k0_off2 (grid0.coords t)) ![1, 1] h) (Shape.Idx.first h')
      = m ((c.tc : Thread nD τ).loc main_arg5) (ix2 (bat t) (hd t)) := by
  blk_ext! [iblk, idxScale t]

/-- The block of the probabilities' codes at a grid point is its batch and head's. -/
theorem read4 (c : Dev nD) (t : Fin cfg0.N) (i j : Fin 577) :
    iblk m c 4 t (ix4 0 0 i j) = m ((c.tc : Thread nD τ).loc main_arg2) (ix4 (bat t) (hd t) i j) := by
  blk_ext! [iblk, idx t]

/-- The block of the queries at a grid point, at channel `d` and position `i`, is its batch and head's. -/
theorem read2 (c : Dev nD) (t : Fin cfg0.N) (d : Fin 80) (i : Fin 577) :
    iblk m c 2 t (ix4 0 0 d i) = m ((c.tc : Thread nD τ).loc main_arg0) (ix4 (bat t) i (hd t) d) := by
  rw [← entry0 m c (bat t) (hd t) d i]
  have e : (win0_2.blk t).view.emb (ix4 0 0 d i) = ix4 (bat t) (hd t) d i := by
    blk_ext [idx t]
  exact congrArg (V m c main_v0) e

/-- The block of the keys at a grid point, at channel `d` and position `i`, is its batch and head's. -/
theorem read3 (c : Dev nD) (t : Fin cfg0.N) (d : Fin 80) (i : Fin 577) :
    iblk m c 3 t (ix4 0 0 d i) = m ((c.tc : Thread nD τ).loc main_arg1) (ix4 (bat t) i (hd t) d) := by
  rw [← entry1 m c (bat t) (hd t) d i]
  have e : (win0_3.blk t).view.emb (ix4 0 0 d i) = ix4 (bat t) (hd t) d i := by
    blk_ext [idx t]
  exact congrArg (V m c main_v1) e

/-- The block of the values' codes at a grid point, at channel `d` and position `i`, is its batch and head's. -/
theorem read5 (c : Dev nD) (t : Fin cfg0.N) (d : Fin 80) (i : Fin 577) :
    iblk m c 5 t (ix4 0 0 d i) = m ((c.tc : Thread nD τ).loc main_arg4) (ix4 (bat t) i (hd t) d) := by
  rw [← entry2 m c (bat t) (hd t) d i]
  have e : (win0_5.blk t).view.emb (ix4 0 0 d i) = ix4 (bat t) (hd t) d i := by
    blk_ext [idx t]
  exact congrArg (V m c main_v2) e

/-- The block of the output's gradient at a grid point, at channel `d` and position `i`, is its batch and head's. -/
theorem read6 (c : Dev nD) (t : Fin cfg0.N) (d : Fin 80) (i : Fin 577) :
    iblk m c 6 t (ix4 0 0 d i) = m ((c.tc : Thread nD τ).loc main_arg6) (ix4 (bat t) i (hd t) d) := by
  rw [← entry3 m c (bat t) (hd t) d i]
  have e : (win0_6.blk t).view.emb (ix4 0 0 d i) = ix4 (bat t) (hd t) d i := by
    blk_ext [idx t]
  exact congrArg (V m c main_v3) e

end Cert.KernelIdeal.Blocks

end
-- ==== Proof.Tiles.lean ====
/- The kernel's three output arrays after its last grid point, over the extended reals: every entry is the gradient's
   formula at the entry's batch, head, channel and position. -/
module

public import proofs.«01_k».proof.Proof.Spec
public import proofs.«01_k».proof.Proof.Block
public import proofs.«01_k».proof.Proof.Blocks

@[expose] public section

set_option maxRecDepth 16384

noncomputable section

namespace Cert.KernelIdeal.Tiles

open Cert.KernelIdeal Cert.KernelIdeal.Gen Cert.KernelIdeal.Blocks Idealize.ShloMosaic Idealize.ShloMosaic.TcCoe Idealize.SL.Sem

variable (m : (ℓ : Loc nD τ sig) → Buf (Elt Ideal) ℓ)

/-- A grid point's score gradient is the formula's at its batch and head. -/
theorem ds (c : Dev nD) (t : Fin cfg0.N) (h₁ h₂ h₃ h₄) (i j : Fin 577) :
    k0_pay5 (F := Ideal) (View.ld (iblk m c 0 t) (Rect.unit (k0_off1 (grid0.coords t)) ![1] h₁) (Shape.Idx.first h₂))
        (View.ld (iblk m c 1 t) (Rect.unit (k0_off2 (grid0.coords t)) ![1, 1] h₃) (Shape.Idx.first h₄))
        (iblk m c 6 t) (iblk m c 5 t) (iblk m c 4 t) (ix2 i j)
      = Spec.dscore (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (bat t) (hd t) i j := by
  rw [Block.ds_apply, read0, read1]
  simp only [read4, read5, read6]
  rfl

/-- What a grid point stores of the queries' gradient at block entry `y` is the formula at its batch and head, position `y 3`
    and channel `y 2`. -/
theorem point7 (c : Dev nD) (t : Fin cfg0.N) (h₁ h₂ h₃ h₄) (y : S1x1x80x577.Idx) :
    k0_pay2 (F := Ideal) (k0_pay5 (F := Ideal) (View.ld (iblk m c 0 t) (Rect.unit (k0_off1 (grid0.coords t)) ![1] h₁) (Shape.Idx.first h₂))
          (View.ld (iblk m c 1 t) (Rect.unit (k0_off2 (grid0.coords t)) ![1, 1] h₃) (Shape.Idx.first h₄))
          (iblk m c 6 t) (iblk m c 5 t) (iblk m c 4 t))
        (iblk m c 3 t) y
      = Spec.dq (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (bat t) (y 3) (hd t) (y 2) := by
  idx_vars y
  rw [Block.dq_apply]
  simp only [ds, read3]
  rfl

/-- The queries' gradient, as the kernel leaves it: heads before channels before positions. -/
def dqArray (c : Dev nD) : S18x16x80x577.Idx → EReal := fun i =>
  Spec.dq (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 3) (i 1) (i 2)

/-- Block entry `y` of a grid point's block lies at the point's batch and head in output array 0. -/
theorem emb7 (t : Fin cfg0.N) (y : S1x1x80x577.Idx) :
    (win0_7.blk t).view.emb y = ix4 (bat t) (hd t) (y 2) (y 3) := by
  blk_ext [idx t]

/-- The kernel leaves the queries' gradient in output array 0. -/
theorem arr7 (c : Dev nD) : (dats m 0 c).arrAt 7 cfg0.N = dqArray m c := by
  refine (dats m 0 c).arrAt_eq_of_covers 7 _ (by decide +kernel) fun t hf y => ?_
  rw [after0_7]
  unfold outsAt0
  frame_out
  exact (point7 m c t _ _ _ _ y).trans (congrArg (dqArray m c) (emb7 t y)).symm

/-- What a grid point stores of the keys' gradient at block entry `y` is the formula at its batch and head, position `y 3`
    and channel `y 2`. -/
theorem point8 (c : Dev nD) (t : Fin cfg0.N) (h₁ h₂ h₃ h₄) (y : S1x1x80x577.Idx) :
    k0_pay1 (F := Ideal) (k0_pay5 (F := Ideal) (View.ld (iblk m c 0 t) (Rect.unit (k0_off1 (grid0.coords t)) ![1] h₁) (Shape.Idx.first h₂))
          (View.ld (iblk m c 1 t) (Rect.unit (k0_off2 (grid0.coords t)) ![1, 1] h₃) (Shape.Idx.first h₄))
          (iblk m c 6 t) (iblk m c 5 t) (iblk m c 4 t))
        (iblk m c 2 t) y
      = Spec.dk (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (bat t) (y 3) (hd t) (y 2) := by
  idx_vars y
  rw [Block.dk_apply]
  simp only [ds, read2]
  rfl

/-- The keys' gradient, as the kernel leaves it: heads before channels before positions. -/
def dkArray (c : Dev nD) : S18x16x80x577.Idx → EReal := fun i =>
  Spec.dk (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 3) (i 1) (i 2)

/-- Block entry `y` of a grid point's block lies at the point's batch and head in output array 1. -/
theorem emb8 (t : Fin cfg0.N) (y : S1x1x80x577.Idx) :
    (win0_8.blk t).view.emb y = ix4 (bat t) (hd t) (y 2) (y 3) := by
  blk_ext [idx t]

/-- The kernel leaves the keys' gradient in output array 1. -/
theorem arr8 (c : Dev nD) : (dats m 0 c).arrAt 8 cfg0.N = dkArray m c := by
  refine (dats m 0 c).arrAt_eq_of_covers 8 _ (by decide +kernel) fun t hf y => ?_
  rw [after0_8]
  unfold outsAt0
  frame_out
  exact (point8 m c t _ _ _ _ y).trans (congrArg (dkArray m c) (emb8 t y)).symm

/-- What a grid point stores of the values' gradient at block entry `y` is the formula at its batch and head, position `y 3`
    and channel `y 2`. -/
theorem point9 (c : Dev nD) (t : Fin cfg0.N) (h₁ h₂) (y : S1x1x80x577.Idx) :
    k0_pay6 (F := Ideal) (View.ld (iblk m c 0 t) (Rect.unit (k0_off1 (grid0.coords t)) ![1] h₁) (Shape.Idx.first h₂))
        (iblk m c 6 t) (iblk m c 4 t) y
      = Spec.dv (m ((c.tc : Thread nD τ).loc main_arg2)) (m ((c.tc : Thread nD τ).loc main_arg3)) (m ((c.tc : Thread nD τ).loc main_arg6))
           (bat t) (y 3) (hd t) (y 2) := by
  idx_vars y
  rw [Block.dv_apply, read0]
  simp only [read4, read6]
  rfl

/-- The values' gradient, as the kernel leaves it: heads before channels before positions. -/
def dvArray (c : Dev nD) : S18x16x80x577.Idx → EReal := fun i =>
  Spec.dv (m ((c.tc : Thread nD τ).loc main_arg2)) (m ((c.tc : Thread nD τ).loc main_arg3)) (m ((c.tc : Thread nD τ).loc main_arg6))
     (i 0) (i 3) (i 1) (i 2)

/-- Block entry `y` of a grid point's block lies at the point's batch and head in output array 2. -/
theorem emb9 (t : Fin cfg0.N) (y : S1x1x80x577.Idx) :
    (win0_9.blk t).view.emb y = ix4 (bat t) (hd t) (y 2) (y 3) := by
  blk_ext [idx t]

/-- The kernel leaves the values' gradient in output array 2. -/
theorem arr9 (c : Dev nD) : (dats m 0 c).arrAt 9 cfg0.N = dvArray m c := by
  refine (dats m 0 c).arrAt_eq_of_covers 9 _ (by decide +kernel) fun t hf y => ?_
  rw [after0_9]
  unfold outsAt0
  frame_out
  exact (point9 m c t _ _ y).trans (congrArg (dvArray m c) (emb9 t y)).symm

end Cert.KernelIdeal.Tiles

end
-- ==== Proof.KernelValue.lean ====
/- The kernel program's run over the extended reals: it ends with its three results at the gradients' formulas, positions
   before heads before channels, and its arguments unchanged. -/
module

public import proofs.«01_k».proof.Proof.Tiles
public import Idealize.ShloMosaic.Lib.Pipeline.FrameSuffix

@[expose] public section

set_option maxRecDepth 16384

noncomputable section

namespace Cert.KernelIdeal.Result

open Cert.KernelIdeal Cert.KernelIdeal.Gen Cert.KernelIdeal.Tiles Idealize.ShloMosaic Idealize.ShloMosaic.TcCoe Idealize.SL.Sem Idealize.ShloMosaic.StableHlo

variable (m : (ℓ : Loc nD τ sig) → Buf (Elt Ideal) ℓ)

/-- The buffers' contents when the kernel's region is left: its arrays as the grid leaves them, the rest as it found them. -/
abbrev exitV (c : Dev nD) : Valuation τ sig (Elt Ideal) :=
  Pipeline.withArrays spec0 c (Gen.V0 m c) fun w => (Gen.dats m 0 c).arrAt w cfg0.N

/-- The queries' gradient at batch, position, head and channel `i`. -/
def dq (c : Dev nD) : S18x577x16x80.Idx → EReal := fun i =>
  Spec.dq (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 1) (i 2) (i 3)

/-- The host's transpose after the region makes the queries' gradient of output array 0 the program's result 0. -/
theorem fin0 (c : Dev nD) :
    Pipeline.afterTail₀ cfgs (Gen.dats m) 0 (Gen.V0 m) [Gen.hostOps1] c main_v5 = dq m c := by
  have tail (V : Valuation τ sig (Elt Ideal)) : after (List.flatten [Gen.hostOps1]) V (Proc.devRef .tc main_v5)
      = transpose S18x577x16x80 [0, 3, 1, 2] (V (Proc.devRef .tc main_v4_0)) transposes_S18x16x80x577_S18x577x16x80_0_3_1_2 := by
    simp only [Gen.hostOps1, List.flatten_cons, List.flatten_nil, List.append_nil, List.cons_append, List.nil_append]
    after_results_simp
  have exit : exitV m c (Proc.devRef .tc main_v4_0) = dqArray m c :=
    (Pipeline.withArrays_arr spec0 Gen.launch0.win.arr_inj c (Gen.V0 m c) _ 7).trans (arr7 m c)
  refine (tail (exitV m c)).trans ?_
  rw [exit]
  funext i
  pointwise [dqArray, dq]

/-- The keys' gradient at batch, position, head and channel `i`. -/
def dk (c : Dev nD) : S18x577x16x80.Idx → EReal := fun i =>
  Spec.dk (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 1) (i 2) (i 3)

/-- The host's transpose after the region makes the keys' gradient of output array 1 the program's result 1. -/
theorem fin1 (c : Dev nD) :
    Pipeline.afterTail₀ cfgs (Gen.dats m) 0 (Gen.V0 m) [Gen.hostOps1] c main_v6 = dk m c := by
  have tail (V : Valuation τ sig (Elt Ideal)) : after (List.flatten [Gen.hostOps1]) V (Proc.devRef .tc main_v6)
      = transpose S18x577x16x80 [0, 3, 1, 2] (V (Proc.devRef .tc main_v4_1)) transposes_S18x16x80x577_S18x577x16x80_0_3_1_2 := by
    simp only [Gen.hostOps1, List.flatten_cons, List.flatten_nil, List.append_nil, List.cons_append, List.nil_append]
    after_results_simp
  have exit : exitV m c (Proc.devRef .tc main_v4_1) = dkArray m c :=
    (Pipeline.withArrays_arr spec0 Gen.launch0.win.arr_inj c (Gen.V0 m c) _ 8).trans (arr8 m c)
  refine (tail (exitV m c)).trans ?_
  rw [exit]
  funext i
  pointwise [dkArray, dk]

/-- The values' gradient at batch, position, head and channel `i`. -/
def dv (c : Dev nD) : S18x577x16x80.Idx → EReal := fun i =>
  Spec.dv (m ((c.tc : Thread nD τ).loc main_arg2)) (m ((c.tc : Thread nD τ).loc main_arg3)) (m ((c.tc : Thread nD τ).loc main_arg6))
     (i 0) (i 1) (i 2) (i 3)

/-- The host's transpose after the region makes the values' gradient of output array 2 the program's result 2. -/
theorem fin2 (c : Dev nD) :
    Pipeline.afterTail₀ cfgs (Gen.dats m) 0 (Gen.V0 m) [Gen.hostOps1] c main_v7 = dv m c := by
  have tail (V : Valuation τ sig (Elt Ideal)) : after (List.flatten [Gen.hostOps1]) V (Proc.devRef .tc main_v7)
      = transpose S18x577x16x80 [0, 3, 1, 2] (V (Proc.devRef .tc main_v4_2)) transposes_S18x16x80x577_S18x577x16x80_0_3_1_2 := by
    simp only [Gen.hostOps1, List.flatten_cons, List.flatten_nil, List.append_nil, List.cons_append, List.nil_append]
    after_results_simp
  have exit : exitV m c (Proc.devRef .tc main_v4_2) = dvArray m c :=
    (Pipeline.withArrays_arr spec0 Gen.launch0.win.arr_inj c (Gen.V0 m c) _ 9).trans (arr9 m c)
  refine (tail (exitV m c)).trans ?_
  rw [exit]
  funext i
  pointwise [dvArray, dv]

/-- Every weakly fair execution of the kernel program ends with the three gradients in its results and its arguments as
    launched. -/
theorem run (ρ : Dev nD → PrngReg) :
    θ_run defs (onTc (τ := τ) (main (F := Ideal))) ⟨m, fun _ => 0, ρ⟩ fun r => ∀ c : Dev nD,
      r.2.mem ((c.tc : Thread nD τ).loc main_v5) = dq m c
      ∧ r.2.mem ((c.tc : Thread nD τ).loc main_v6) = dk m c
      ∧ r.2.mem ((c.tc : Thread nD τ).loc main_v7) = dv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v5 (Pipeline.mem_restRefs_of main_v5 (by decide) (by decide))).trans (fin0 m c),
      ((h c).2 main_v6 (Pipeline.mem_restRefs_of main_v6 (by decide) (by decide))).trans (fin1 m c),
      ((h c).2 main_v7 (Pipeline.mem_restRefs_of main_v7 (by decide) (by decide))).trans (fin2 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 4).trans (((Gen.dats m 0 c).arrAt_in 4 rfl _).trans ((Gen.A_eq m c 4).trans (Gen.V_main_arg2 m c))),
      ((h c).1 0).trans (((Gen.dats m 0 c).arrAt_in 0 rfl _).trans ((Gen.A_eq m c 0).trans (Gen.V_main_arg3 m c))),
      ((h c).2 main_arg4 (Pipeline.mem_restRefs_of main_arg4 (by decide) (by decide))).trans (Gen.W_main_arg4 m (Gen.dats m) c),
      ((h c).1 1).trans (((Gen.dats m 0 c).arrAt_in 1 rfl _).trans ((Gen.A_eq m c 1).trans (Gen.V_main_arg5 m c))),
      ((h c).2 main_arg6 (Pipeline.mem_restRefs_of main_arg6 (by decide) (by decide))).trans (Gen.W_main_arg6 m (Gen.dats m) c)⟩) (Gen.run_main m ρ)

end Cert.KernelIdeal.Result

end
-- ==== Proof.ReferenceValue.lean ====
/- The reference program's run over the extended reals: what its one kernel call leaves (the two narrow arguments widened),
   and its three results as the gradients' formulas. -/
module

public import proofs.«01_k».proof.Proof.Spec
public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

namespace Cert.ReferenceIdeal.Result

open Cert.ReferenceIdeal Cert.ReferenceIdeal.Gen Idealize.ShloMosaic Idealize.ShloMosaic.TcCoe Idealize.SL.Sem

variable (m : (ℓ : Loc nD τ sig) → Buf (Elt Ideal) ℓ)

/-- The codes `p` as the numbers that they are. -/
def asReal (p : Vec Ideal S18x16x577x577 .i8) : Vec Ideal S18x16x577x577 .f32 :=
  fun i => (((p i).toInt : ℝ) : EReal)

/-- Each window of the kernel call is its whole array. -/
theorem idx : ∀ t : Fin cfg0.N, (win0 0).index t = ![0, 0, 0, 0] ∧ (win0 1).index t = ![0, 0, 0, 0]
    ∧ (win0 2).index t = ![0, 0, 0, 0] ∧ (win0 3).index t = ![0, 0, 0, 0] := by
  decide +kernel

/-- The first input block is the array of the probabilities' codes. -/
theorem read0 (c : Dev nD) (t : Fin cfg0.N) (y : S18x16x577x577.Idx) :
    iblk m c 0 t y = m ((c.tc : Thread nD τ).loc main_arg2) y := by
  blk_ext! [iblk, idx t]

/-- The second input block is the array of the values' codes. -/
theorem read1 (c : Dev nD) (t : Fin cfg0.N) (y : S18x577x16x80.Idx) :
    iblk m c 1 t y = m ((c.tc : Thread nD τ).loc main_arg4) y := by
  blk_ext! [iblk, idx t]

/-- An entry of the first output block is the array's entry of the same index. -/
theorem emb2 (t : Fin cfg0.N) (y : S18x16x577x577.Idx) : (win0_2.blk t).view.emb y = y := by
  blk_ext [idx t]

/-- An entry of the second output block is the array's entry of the same index. -/
theorem emb3 (t : Fin cfg0.N) (y : S18x577x16x80.Idx) : (win0_3.blk t).view.emb y = y := by
  blk_ext [idx t]

/-- The kernel call leaves the probabilities' codes as numbers. -/
theorem codes (c : Dev nD) : Value.reg_main_v0_0 m c = asReal (m ((c.tc : Thread nD τ).loc main_arg2)) := by
  unfold Value.reg_main_v0_0
  refine (dats m 0 c).arrAt_eq_of_covers 2 _ (by decide +kernel) fun t hf y => ?_
  rw [after0_2]
  frame_out
  blk_simp
  exact (congrArg (fun b : BitVec 8 => ((b.toInt : ℝ) : EReal)) (read0 m c t y)).trans
    (congrArg (asReal (m ((c.tc : Thread nD τ).loc main_arg2))) (emb2 t y)).symm

/-- The kernel call leaves the values' codes, which a wider format holds unchanged. -/
theorem vals (c : Dev nD) : Value.reg_main_v0_1 m c = m ((c.tc : Thread nD τ).loc main_arg4) := by
  unfold Value.reg_main_v0_1
  refine (dats m 0 c).arrAt_eq_of_covers 3 _ (by decide +kernel) fun t hf y => ?_
  rw [after0_3]
  frame_out
  blk_simp
  exact (read1 m c t y).trans (congrArg (m ((c.tc : Thread nD τ).loc main_arg4)) (emb3 t y)).symm

/-- The reference's operations at an index: the queries' gradient. -/
theorem dq_apply (k g : Vec Ideal S18x577x16x80 .bf16) (p : Vec Ideal S18x16x577x577 .i8) (ps : Vec Ideal S16 .f32)
    (v : Vec Ideal S18x577x16x80 .bf16) (vs : Vec Ideal S18x16 .f32) (i : S18x577x16x80.Idx) :
    Read.val_main_v29 (F := Ideal) k ps vs g (asReal p) v i
      = Spec.dq k p ps v vs g (i 0) (i 1) (i 2) (i 3) := by
  idx_vars i
  pointwise [Read.val_main_v29, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v3, Read.val_main_v2, Read.val_main_v1, Read.val_main_cst, Read.val_main_cst_0, asReal]
  rfl

/-- The reference's operations at an index: the keys' gradient. -/
theorem dk_apply (q g : Vec Ideal S18x577x16x80 .bf16) (p : Vec Ideal S18x16x577x577 .i8) (ps : Vec Ideal S16 .f32)
    (v : Vec Ideal S18x577x16x80 .bf16) (vs : Vec Ideal S18x16 .f32) (i : S18x577x16x80.Idx) :
    Read.val_main_v30 (F := Ideal) q ps vs g (asReal p) v i
      = Spec.dk q p ps v vs g (i 0) (i 1) (i 2) (i 3) := by
  idx_vars i
  pointwise [Read.val_main_v30, Read.val_main_v28, Read.val_main_v27, Read.val_main_v26, Read.val_main_v25, Read.val_main_v20, Read.val_main_v19, Read.val_main_v18, Read.val_main_v17, Read.val_main_v16, Read.val_main_v15, Read.val_main_v14, Read.val_main_v13, Read.val_main_v12, Read.val_main_v11, Read.val_main_v10, Read.val_main_v3, Read.val_main_v2, Read.val_main_v1, Read.val_main_cst, Read.val_main_cst_1, asReal]
  rfl

/-- The reference's operations at an index: the values' gradient. -/
theorem dv_apply (g : Vec Ideal S18x577x16x80 .bf16) (p : Vec Ideal S18x16x577x577 .i8) (ps : Vec Ideal S16 .f32)
    (i : S18x577x16x80.Idx) :
    Read.val_main_v31 (F := Ideal) ps g (asReal p) i
      = Spec.dv p ps g (i 0) (i 1) (i 2) (i 3) := by
  idx_vars i
  pointwise [Read.val_main_v31, Read.val_main_v9, Read.val_main_v8, Read.val_main_v7, Read.val_main_v6, Read.val_main_v5, Read.val_main_v4, asReal]
  rfl

/-- The queries' gradient at batch, position, head and channel `i`. -/
def dq (c : Dev nD) : S18x577x16x80.Idx → EReal := fun i =>
  Spec.dq (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 1) (i 2) (i 3)

/-- The reference's result 0 is the queries' gradient. -/
theorem fin0 (c : Dev nD) :
    Pipeline.afterTail₀ cfgs (Gen.dats m) 0 (Gen.V0 m) [Gen.hostOps1] c main_v29 = dq m c := by
  refine (Value.tail_main_v29 (Value.exitV m c)).trans ((Read.val_main_v29_eq (Value.exitV m c)).trans ?_)
  rw [Value.exit_main_arg1, Value.exit_main_arg3, Value.exit_main_arg5, Value.exit_main_arg6, Value.exit_main_v0_0, Value.exit_main_v0_1, codes, vals]
  funext i
  exact dq_apply (m ((c.tc : Thread nD τ).loc main_arg1)) (m ((c.tc : Thread nD τ).loc main_arg6)) (m ((c.tc : Thread nD τ).loc main_arg2)) (m ((c.tc : Thread nD τ).loc main_arg3)) (m ((c.tc : Thread nD τ).loc main_arg4)) (m ((c.tc : Thread nD τ).loc main_arg5)) i

/-- The keys' gradient at batch, position, head and channel `i`. -/
def dk (c : Dev nD) : S18x577x16x80.Idx → EReal := fun i =>
  Spec.dk (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 1) (i 2) (i 3)

/-- The reference's result 1 is the keys' gradient. -/
theorem fin1 (c : Dev nD) :
    Pipeline.afterTail₀ cfgs (Gen.dats m) 0 (Gen.V0 m) [Gen.hostOps1] c main_v30 = dk m c := by
  refine (Value.tail_main_v30 (Value.exitV m c)).trans ((Read.val_main_v30_eq (Value.exitV m c)).trans ?_)
  rw [Value.exit_main_arg0, Value.exit_main_arg3, Value.exit_main_arg5, Value.exit_main_arg6, Value.exit_main_v0_0, Value.exit_main_v0_1, codes, vals]
  funext i
  exact dk_apply (m ((c.tc : Thread nD τ).loc main_arg0)) (m ((c.tc : Thread nD τ).loc main_arg6)) (m ((c.tc : Thread nD τ).loc main_arg2)) (m ((c.tc : Thread nD τ).loc main_arg3)) (m ((c.tc : Thread nD τ).loc main_arg4)) (m ((c.tc : Thread nD τ).loc main_arg5)) i

/-- The values' gradient at batch, position, head and channel `i`. -/
def dv (c : Dev nD) : S18x577x16x80.Idx → EReal := fun i =>
  Spec.dv (m ((c.tc : Thread nD τ).loc main_arg2)) (m ((c.tc : Thread nD τ).loc main_arg3)) (m ((c.tc : Thread nD τ).loc main_arg6))
     (i 0) (i 1) (i 2) (i 3)

/-- The reference's result 2 is the values' gradient. -/
theorem fin2 (c : Dev nD) :
    Pipeline.afterTail₀ cfgs (Gen.dats m) 0 (Gen.V0 m) [Gen.hostOps1] c main_v31 = dv m c := by
  refine (Value.tail_main_v31 (Value.exitV m c)).trans ((Read.val_main_v31_eq (Value.exitV m c)).trans ?_)
  rw [Value.exit_main_arg3, Value.exit_main_arg6, Value.exit_main_v0_0, codes]
  funext i
  exact dv_apply (m ((c.tc : Thread nD τ).loc main_arg6)) (m ((c.tc : Thread nD τ).loc main_arg2)) (m ((c.tc : Thread nD τ).loc main_arg3)) i

/-- Every weakly fair execution of the reference program ends with the three gradients in its results and its arguments as
    launched. -/
theorem run (ρ : Dev nD → PrngReg) :
    θ_run defs (onTc (τ := τ) (main (F := Ideal))) ⟨m, fun _ => 0, ρ⟩ fun r => ∀ c : Dev nD,
      r.2.mem ((c.tc : Thread nD τ).loc main_v29) = dq m c
      ∧ r.2.mem ((c.tc : Thread nD τ).loc main_v30) = dk m c
      ∧ r.2.mem ((c.tc : Thread nD τ).loc main_v31) = dv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans ((Value.fin_main_v29 m c).symm.trans (fin0 m c)),
      (h c).2.1.trans ((Value.fin_main_v30 m c).symm.trans (fin1 m c)),
      (h c).2.2.1.trans ((Value.fin_main_v31 m c).symm.trans (fin2 m c)), (h c).2.2.2⟩) (Value.run m ρ)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Over the extended reals, from memories that agree on the arguments, the kernel and the reference both run and end with
    the same three gradients. -/
theorem algebraic : Cert.algebraic_KernelIdeal_ReferenceIdeal (hKernelIdeal := Cert.KernelIdeal.Gen.facts)
    (hReferenceIdeal := Cert.ReferenceIdeal.Gen.facts) := by
  intro m g m' g' _ h
  refine ⟨Cert.KernelIdeal.Result.dq m, Cert.KernelIdeal.Result.dk m, Cert.KernelIdeal.Result.dv m,
    Cert.KernelIdeal.Result.run m g, ?_⟩
  refine (θ_run _ _ _).mono (fun _ hr c => ?_) (Cert.ReferenceIdeal.Result.run m' g')
  obtain ⟨h0, h1, h2, h3, h4, h5, h6⟩ := h c
  obtain ⟨r0, r1, r2, ha⟩ := hr c
  refine ⟨r0.trans ?_, r1.trans ?_, r2.trans ?_, ha⟩
  · unfold Cert.ReferenceIdeal.Result.dq Cert.KernelIdeal.Result.dq
    rw [h1, h2, h3, h4, h5, h6]
  · unfold Cert.ReferenceIdeal.Result.dk Cert.KernelIdeal.Result.dk
    rw [h0, h2, h3, h4, h5, h6]
  · unfold Cert.ReferenceIdeal.Result.dv Cert.KernelIdeal.Result.dv
    rw [h2, h3, h6]

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
